-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x1536 : Shape := ⟨3, ![3, 512, 1536]⟩
abbrev S3x512x1 : Shape := ⟨3, ![3, 512, 1]⟩
abbrev S1536x3456 : Shape := ⟨2, ![1536, 3456]⟩
abbrev S3456 : Shape := ⟨1, ![3456]⟩
abbrev S1536x1536 : Shape := ⟨2, ![1536, 1536]⟩
abbrev S1536x1 : Shape := ⟨2, ![1536, 1]⟩
abbrev S1x3456 : Shape := ⟨2, ![1, 3456]⟩
abbrev S256x1536 : Shape := ⟨2, ![256, 1536]⟩
abbrev S256x1 : Shape := ⟨2, ![256, 1]⟩
abbrev S256x3456 : Shape := ⟨2, ![256, 3456]⟩
abbrev S3x512x3456 : Shape := ⟨3, ![3, 512, 3456]⟩

abbrev nBuf : Space → Nat
  | .hbm => 11
  | .vmem => 9
  | .smem => 0
  | _ => 0

abbrev bufTy : (tb : Table) → Fin (tcTables nBuf tb) → BufTy
  | .hbm, ⟨0, _⟩ => ⟨S3x512x1536, .fp8e4m3⟩
  | .hbm, ⟨1, _⟩ => ⟨S3x512x1, .f32⟩
  | .hbm, ⟨2, _⟩ => ⟨S1536x3456, .fp8e4m3⟩
  | .hbm, ⟨3, _⟩ => ⟨S3456, .f32⟩
  | .hbm, ⟨4, _⟩ => ⟨S3456, .f32⟩
  | .hbm, ⟨5, _⟩ => ⟨S1536x1536, .fp8e4m3⟩
  | .hbm, ⟨6, _⟩ => ⟨S1536x1, .f32⟩
  | .hbm, ⟨7, _⟩ => ⟨S1x3456, .f32⟩
  | .hbm, ⟨8, _⟩ => ⟨S1x3456, .f32⟩
  | .hbm, ⟨9, _⟩ => ⟨S1536x3456, .bf16⟩
  | .hbm, ⟨10, _⟩ => ⟨S3x512x3456, .bf16⟩
  | .local _ .vmem, ⟨0, _⟩ => ⟨S256x1536, .fp8e4m3⟩
  | .local _ .vmem, ⟨1, _⟩ => ⟨S256x1536, .fp8e4m3⟩
  | .local _ .vmem, ⟨2, _⟩ => ⟨S256x1, .f32⟩
  | .local _ .vmem, ⟨3, _⟩ => ⟨S256x1, .f32⟩
  | .local _ .vmem, ⟨4, _⟩ => ⟨S1536x3456, .fp8e4m3⟩
  | .local _ .vmem, ⟨5, _⟩ => ⟨S1x3456, .f32⟩
  | .local _ .vmem, ⟨6, _⟩ => ⟨S1x3456, .f32⟩
  | .local _ .vmem, ⟨7, _⟩ => ⟨S256x3456, .bf16⟩
  | .local _ .vmem, ⟨8, _⟩ => ⟨S256x3456, .bf16⟩
  | _, _ => ⟨S3x512x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x3456 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3456 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3456 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3456 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x512x1536 : Shape := ⟨3, ![3, 512, 1536]⟩
abbrev S3x512x1 : Shape := ⟨3, ![3, 512, 1]⟩
abbrev S1536x3456 : Shape := ⟨2, ![1536, 3456]⟩
abbrev S3456 : Shape := ⟨1, ![3456]⟩
abbrev S3x512x3456 : Shape := ⟨3, ![3, 512, 3456]⟩
abbrev S1x1x3456 : Shape := ⟨3, ![1, 1, 3456]⟩

abbrev nBuf : Space → Nat
  | .hbm => 6
  | .vmem => 6
  | .smem => 0
  | _ => 0

abbrev bufTy : (tb : Table) → Fin (tcTables nBuf tb) → BufTy
  | .hbm, ⟨0, _⟩ => ⟨S3x512x1536, .fp8e4m3⟩
  | .hbm, ⟨1, _⟩ => ⟨S3x512x1, .f32⟩
  | .hbm, ⟨2, _⟩ => ⟨S1536x3456, .fp8e4m3⟩
  | .hbm, ⟨3, _⟩ => ⟨S3456, .f32⟩
  | .hbm, ⟨4, _⟩ => ⟨S3456, .f32⟩
  | .hbm, ⟨5, _⟩ => ⟨S3x512x3456, .bf16⟩
  | .local _ .vmem, ⟨0, _⟩ => ⟨S3x512x1536, .fp8e4m3⟩
  | .local _ .vmem, ⟨1, _⟩ => ⟨S3x512x1, .f32⟩
  | .local _ .vmem, ⟨2, _⟩ => ⟨S1536x3456, .fp8e4m3⟩
  | .local _ .vmem, ⟨3, _⟩ => ⟨S3456, .f32⟩
  | .local _ .vmem, ⟨4, _⟩ => ⟨S3456, .f32⟩
  | .local _ .vmem, ⟨5, _⟩ => ⟨S3x512x3456, .bf16⟩
  | _, _ => ⟨S3x512x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x512x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x3456 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3456 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3456 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x512x3456 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Spec.lean ====
/-
  THE MATHEMATICS of the linear layer, and the reference's result as it: an element of the result is the inner product of
  a token's codes with an output channel's codes, times the token's scale, times the channel's scale, plus the channel's
  bias. Over the extended reals the rounding of the codes and of the result is the identity.
-/
module

public import proofs.«01_k».proof.Defs
public import proofs.«01_k».proof.Proof.Gen.ReferenceIdeal.Value
public import Idealize.ShloMosaic.Lib.Pointwise

@[expose] public section

set_option maxRecDepth 16384

noncomputable section

namespace Cert.Spec

open Idealize.ShloMosaic Cert.ReferenceIdeal Cert.ReferenceIdeal.Gen

/-- The layer's result at batch entry `b`, position `s` and output channel `n`. -/
def elem (x : Vec Ideal S3x512x1536 .fp8e4m3) (xs : Vec Ideal S3x512x1 .f32) (w : Vec Ideal S1536x3456 .fp8e4m3)
    (ws : Vec Ideal S3456 .f32) (bias : Vec Ideal S3456 .f32) (b : Fin 3) (s : Fin 512) (n : Fin 3456) : EReal :=
  (∑ k : Fin 1536, x (ix3 b s k) * w (ix2 k n)) * xs (ix3 b s 0) * ws (ix1 n) + bias (ix1 n)

/-- The reference's one payload, read at an index, is the layer's element there. -/
theorem reference_apply (x : Vec Ideal S3x512x1536 .fp8e4m3) (xs : Vec Ideal S3x512x1 .f32) (w : Vec Ideal S1536x3456 .fp8e4m3)
    (ws : Vec Ideal S3456 .f32) (bias : Vec Ideal S3456 .f32) (b : Fin 3) (s : Fin 512) (n : Fin 3456) :
    Cert.ReferenceIdeal.Value.G5 (F := Ideal) x xs w ws bias (ix3 b s n) = elem x xs w ws bias b s n := by
  unfold elem
  pointwise [Cert.ReferenceIdeal.Value.G5, k0_pay1]

end Cert.Spec

end
-- ==== Proof.KernelValue.lean ====
/-
  THE KERNEL'S RESULT over the extended reals, read off its frame run: what the grid writes back is, row by row of the
  flattened tokens, the layer's element, and the reshape after the grid puts it at its batch entry and position.
-/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelValue

open Idealize.ShloMosaic Idealize.ShloMosaic.TcCoe Idealize.SL.Sem Cert.KernelIdeal Cert.KernelIdeal.Gen

variable (m : (ℓ : Loc nD τ sig) → Buf (Elt Ideal) ℓ)

/-- The layer's element of the arguments as launched. -/
abbrev elemOf (c : Dev nD) (b : Fin 3) (s : Fin 512) (n : Fin 3456) : EReal :=
  Cert.Spec.elem (m ((c : Thread nD τ).loc main_arg0)) (m ((c : Thread nD τ).loc main_arg1))
    (m ((c : Thread nD τ).loc main_arg2)) (m ((c : Thread nD τ).loc main_arg3)) (m ((c : Thread nD τ).loc main_arg4)) b s n

/-- The array the grid writes: row `r` is token `r % 512` of batch entry `r / 512`. -/
def rows (c : Dev nD) : Vec Ideal S1536x3456 .bf16 := fun j =>
  elemOf m c ⟨(j 0).val / 512, by have h : (j 0).val < 1536 := (j 0).isLt; omega⟩
    ⟨(j 0).val % 512, Nat.mod_lt _ (by decide)⟩ (j 1)

/-- Where each window's block sits at a grid point. -/
theorem idx (t : Fin cfg0.N) : win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![t.val, 0]) t

/-- The array the region reads the codes from: the codes with tokens flattened. -/
theorem V_main_v0 (c : Dev nD) :
    V m c main_v0 = shapeCast S1536x1536 (m ((c : Thread nD τ).loc main_arg0)) shapeCasts_S3x512x1536_S1536x1536 := by
  show StableHlo.after hostOps0 _ _ = _
  after_results
  rfl

/-- The array of token scales: flattened likewise. -/
theorem V_main_v1 (c : Dev nD) :
    V m c main_v1 = shapeCast S1536x1 (m ((c : Thread nD τ).loc main_arg1)) shapeCasts_S3x512x1_S1536x1 := by
  show StableHlo.after hostOps0 _ _ = _
  after_results
  rfl

/-- The array of channel scales: the vector as one row. -/
theorem V_main_v2 (c : Dev nD) :
    V m c main_v2 = shapeCast S1x3456 (m ((c : Thread nD τ).loc main_arg3)) shapeCasts_S3456_S1x3456 := by
  show StableHlo.after hostOps0 _ _ = _
  after_results
  rfl

/-- The array of biases: the vector as one row. -/
theorem V_main_v3 (c : Dev nD) :
    V m c main_v3 = shapeCast S1x3456 (m ((c : Thread nD τ).loc main_arg4)) shapeCasts_S3456_S1x3456 := by
  show StableHlo.after hostOps0 _ _ = _
  after_results
  rfl

theorem row_lt (t : Fin cfg0.N) (r : Fin 256) : t.val * 256 + r.val < 1536 := by
  have h : t.val < 6 := t.isLt
  omega

/-- Row `r` of the block of codes at grid point `t` is row `256 t + r` of the array. -/
theorem emb0 (t : Fin cfg0.N) (r : Fin 256) (k : Fin 1536) :
    ((cfg0.win 0).blk t).view.emb (ix2 r k) = ix2 ⟨t.val * 256 + r.val, row_lt t r⟩ k := by
  obtain ⟨e0, e1, e2, e3, e4, e5⟩ := idx t
  funext i
  fin_cases i
  · apply Fin.ext; blk_simp [e0]; rfl
  · apply Fin.ext; blk_simp [e0]; rfl

/-- The block of token scales likewise. -/
theorem emb1 (t : Fin cfg0.N) (r : Fin 256) (k : Fin 1) :
    ((cfg0.win 1).blk t).view.emb (ix2 r k) = ix2 ⟨t.val * 256 + r.val, row_lt t r⟩ k := by
  obtain ⟨e0, e1, e2, e3, e4, e5⟩ := idx t
  funext i
  fin_cases i
  · apply Fin.ext; blk_simp [e1]; rfl
  · apply Fin.ext; blk_simp [e1]

/-- The block of weight codes is the whole matrix at every grid point. -/
theorem emb2 (t : Fin cfg0.N) (r : Fin 1536) (k : Fin 3456) :
    ((cfg0.win 2).blk t).view.emb (ix2 r k) = ix2 r k := by
  obtain ⟨e0, e1, e2, e3, e4, e5⟩ := idx t
  funext i
  fin_cases i
  · apply Fin.ext; blk_simp [e2]
  · apply Fin.ext; blk_simp [e2]

/-- The block of channel scales is the whole row. -/
theorem emb3 (t : Fin cfg0.N) (r : Fin 1) (k : Fin 3456) :
    ((cfg0.win 3).blk t).view.emb (ix2 r k) = ix2 r k := by
  obtain ⟨e0, e1, e2, e3, e4, e5⟩ := idx t
  funext i
  fin_cases i
  · apply Fin.ext; blk_simp [e3]
  · apply Fin.ext; blk_simp [e3]

/-- The block of biases likewise. -/
theorem emb4 (t : Fin cfg0.N) (r : Fin 1) (k : Fin 3456) :
    ((cfg0.win 4).blk t).view.emb (ix2 r k) = ix2 r k := by
  obtain ⟨e0, e1, e2, e3, e4, e5⟩ := idx t
  funext i
  fin_cases i
  · apply Fin.ext; blk_simp [e4]
  · apply Fin.ext; blk_simp [e4]

/-- Row `r` of the block of results at grid point `t` is row `256 t + r` of the array. -/
theorem emb5 (t : Fin cfg0.N) (r : Fin 256) (k : Fin 3456) :
    ((cfg0.win 5).blk t).view.emb (ix2 r k) = ix2 ⟨t.val * 256 + r.val, row_lt t r⟩ k := by
  obtain ⟨e0, e1, e2, e3, e4, e5⟩ := idx t
  funext i
  fin_cases i
  · apply Fin.ext; blk_simp [e5]; rfl
  · apply Fin.ext; blk_simp [e5]; rfl

/-- Token scales with tokens flattened, read at a row. -/
theorem flat_scale (v : Vec Ideal S3x512x1 .f32) (n : Fin 1536) :
    shapeCast S1536x1 v shapeCasts_S3x512x1_S1536x1 (ix2 n 0)
      = v (ix3 ⟨n.val / 512, by omega⟩ ⟨n.val % 512, Nat.mod_lt _ (by decide)⟩ 0) := by
  pointwise

/-- Codes with tokens flattened, read at a row. -/
theorem flat_codes (v : Vec Ideal S3x512x1536 .fp8e4m3) (n : Fin 1536) (k : Fin 1536) :
    shapeCast S1536x1536 v shapeCasts_S3x512x1536_S1536x1536 (ix2 n k)
      = v (ix3 ⟨n.val / 512, by omega⟩ ⟨n.val % 512, Nat.mod_lt _ (by decide)⟩ k) := by
  pointwise

/-- What the body reads of the codes at row `r` of its block: the token's own code. -/
theorem read_x (c : Dev nD) (t : Fin cfg0.N) (r : Fin 256) (k : Fin 1536) :
    iblk m c 0 t (ix2 r k) = m ((c : Thread nD τ).loc main_arg0)
      (ix3 ⟨(t.val * 256 + r.val) / 512, by have := row_lt t r; omega⟩ ⟨(t.val * 256 + r.val) % 512, Nat.mod_lt _ (by decide)⟩ k) := by
  show V m c main_v0 (((cfg0.win 0).blk t).view.emb (ix2 r k)) = _
  rw [emb0, V_main_v0]
  exact flat_codes _ _ _

/-- The token's own scale. -/
theorem read_xs (c : Dev nD) (t : Fin cfg0.N) (r : Fin 256) :
    iblk m c 1 t (ix2 r 0) = m ((c : Thread nD τ).loc main_arg1)
      (ix3 ⟨(t.val * 256 + r.val) / 512, by have := row_lt t r; omega⟩ ⟨(t.val * 256 + r.val) % 512, Nat.mod_lt _ (by decide)⟩ 0) := by
  show V m c main_v1 (((cfg0.win 1).blk t).view.emb (ix2 r 0)) = _
  rw [emb1, V_main_v1]
  exact flat_scale _ _

/-- The weight codes as they are. -/
theorem read_w (c : Dev nD) (t : Fin cfg0.N) (k : Fin 1536) (n : Fin 3456) :
    iblk m c 2 t (ix2 k n) = m ((c : Thread nD τ).loc main_arg2) (ix2 k n) := by
  show V m c main_arg2 (((cfg0.win 2).blk t).view.emb (ix2 k n)) = _
  rw [emb2, V_main_arg2]

/-- The channel's own scale. -/
theorem read_ws (c : Dev nD) (t : Fin cfg0.N) (n : Fin 3456) :
    iblk m c 3 t (ix2 0 n) = m ((c : Thread nD τ).loc main_arg3) (ix1 n) := by
  show V m c main_v2 (((cfg0.win 3).blk t).view.emb (ix2 0 n)) = _
  rw [emb3, V_main_v2]
  pointwise

/-- The channel's own bias. -/
theorem read_bias (c : Dev nD) (t : Fin cfg0.N) (n : Fin 3456) :
    iblk m c 4 t (ix2 0 n) = m ((c : Thread nD τ).loc main_arg4) (ix1 n) := by
  show V m c main_v3 (((cfg0.win 4).blk t).view.emb (ix2 0 n)) = _
  rw [emb4, V_main_v3]
  pointwise

/-- After the grid the result array is the layer's output by rows. -/
theorem final (c : Dev nD) : (dats m 0 c).arrAt 5 cfg0.N = rows m c := by
  refine (dats m 0 c).arrAt_eq_of_covers 5 _ (by decide +kernel) fun t hf y => ?_
  blk_simp
  rw [after0_5]
  frame_out
  idx_vars y
  rw [show ((View.whole main_v4).slice (win0_5.rect t)).emb (ix2 y0 y1) = _ from emb5 t y0 y1]
  pointwise [k0_pay1, rows, Cert.Spec.elem]
  simp only [read_x, read_xs, read_w, read_ws, read_bias]

/-- What the line after the grid leaves in the result buffer. -/
theorem tail (c : Dev nD) : Pipeline.afterTail₀ cfgs (dats m) 0 (V0 m) [hostOps1] c main_v5
    = shapeCast S3x512x3456 (rows m c) shapeCasts_S1536x3456_S3x512x3456 := by
  have h : Pipeline.withArrays spec0 c (V0 m c) (fun w => (dats m 0 c).arrAt w cfg0.N) (Proc.devRef .tc main_v4) = rows m c :=
    (Pipeline.withArrays_arr spec0 (by decide) c _ _ 5).trans (final m c)
  unfold Pipeline.afterTail₀
  show StableHlo.after hostOps1 _ _ = _
  after_results
  rw [← h]
  rfl

/-- The result at a batch entry, position and channel is the layer's element. -/
theorem result_apply (c : Dev nD) (b : Fin 3) (s : Fin 512) (n : Fin 3456) :
    shapeCast S3x512x3456 (rows m c) shapeCasts_S1536x3456_S3x512x3456 (ix3 b s n) = elemOf m c b s n := by
  have hd : (b.val * 512 + s.val) / 512 = b.val := by omega
  have hm : (b.val * 512 + s.val) % 512 = s.val := by omega
  rw [shapeCast_apply (rows m c) shapeCasts_S1536x3456_S3x512x3456 (ix3 b s n) (ix2 ⟨b.val * 512 + s.val, by omega⟩ n)
    (by rw [Shape.rowMajor_val_three, Shape.rowMajor_val_two]; rfl)]
  show elemOf m c ⟨(b.val * 512 + s.val) / 512, _⟩ ⟨(b.val * 512 + s.val) % 512, _⟩ n = _
  congr 1
  · exact Fin.ext hd
  · exact Fin.ext hm

/-- Every run ends with the layer's output in the result buffer and the arguments as launched. -/
theorem run (ρ : Dev nD → PrngReg) :
    θ_run defs (onTc (τ := τ) (main (F := Ideal))) ⟨m, fun _ => 0, ρ⟩ fun r => ∀ c : Dev nD,
      r.2.mem ((c : Thread nD τ).loc main_v5) = shapeCast S3x512x3456 (rows m c) shapeCasts_S1536x3456_S3x512x3456
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v5 (Pipeline.mem_restRefs_of main_v5 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans (V_main_arg2 m c)),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import Idealize.ShloMosaic.Adequacy
public import Idealize.ShloMosaic.Init

@[expose] public section

noncomputable section

namespace Cert.Proof

open Idealize.ShloMosaic Idealize.SL.Sem Cert.Kernel

/-- The kernel runs, keeps its arguments and ends quiescent. -/
theorem frameK : Cert.quiescent_Kernel (hKernel := Cert.Kernel.Gen.facts) := fun m g _ => Cert.Kernel.Gen.frame m g

/-- So does its idealization. -/
theorem frameKI : Cert.quiescent_KernelIdeal (hKernelIdeal := Cert.KernelIdeal.Gen.facts) :=
  fun m g _ => Cert.KernelIdeal.Gen.frame m g

/-- So does the reference. -/
theorem frameRI : Cert.quiescent_ReferenceIdeal (hReferenceIdeal := Cert.ReferenceIdeal.Gen.facts) :=
  fun m g _ => Cert.ReferenceIdeal.Gen.frame m g

/-- Kernel and reference end with the same array, element by element as extended reals: each element is the layer's
    element of the arguments. -/
theorem value : Cert.algebraic_KernelIdeal_ReferenceIdeal (hKernelIdeal := Cert.KernelIdeal.Gen.facts)
    (hReferenceIdeal := Cert.ReferenceIdeal.Gen.facts) := by
  intro m g m' g' _ hagree
  refine ⟨_, Cert.KernelValue.run m g, (θ_run _ _ _).mono (fun r h c => ?_) (Cert.ReferenceIdeal.Value.run m' g')⟩
  refine ⟨(h c).1.trans ?_, (h c).2⟩
  obtain ⟨e0, e1, e2, e3, e4⟩ := hagree c
  rw [e0, e1, e2, e3, e4]
  funext i
  idx_vars i
  exact (Cert.Spec.reference_apply _ _ _ _ _ i0 i1 i2).trans (Cert.KernelValue.result_apply m c i0 i1 i2).symm

/-- Every claim of the certificate. -/
theorem claim : Cert.Claim :=
  ⟨Cert.Kernel.Gen.facts, Cert.KernelIdeal.Gen.facts, Cert.ReferenceIdeal.Gen.facts, frameK, frameKI, frameRI, trivial, value⟩

end Cert.Proof

end
